-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S1x1x4096 : Shape := ⟨3, ![1, 1, 4096]⟩
abbrev S65536x256 : Shape := ⟨2, ![65536, 256]⟩
abbrev S256x4096 : Shape := ⟨2, ![256, 4096]⟩
abbrev S256 : Shape := ⟨1, ![256]⟩
abbrev S4096x256 : Shape := ⟨2, ![4096, 256]⟩
abbrev S4096 : Shape := ⟨1, ![4096]⟩
abbrev S_ : Shape := ⟨0, ![]⟩

class Facts : Prop where
  bcast_S_S1x1x4096 : S_.BroadcastsInDim S1x1x4096 (![] : Fin 0 → Fin S1x1x4096.rank)
  reducesTo_S1x1x4096_S_d0_1_2 : S1x1x4096.ReducesTo [0, 1, 2] S_
  h_S_ : 0 < S_.numel
  bcast_S_S65536x256 : S_.BroadcastsInDim S65536x256 (![] : Fin 0 → Fin S65536x256.rank)
  reducesTo_S65536x256_S_d0_1 : S65536x256.ReducesTo [0, 1] S_
  bcast_S_S256x4096 : S_.BroadcastsInDim S256x4096 (![] : Fin 0 → Fin S256x4096.rank)
  reducesTo_S256x4096_S_d0_1 : S256x4096.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S1x1x4096 .f32) (main_arg1 : FVec F S65536x256 .f32) (main_arg2 : FVec F S256x4096 .f32) (main_arg3 : FVec F S256 .f32) (main_arg4 : FVec F S4096x256 .f32) (main_arg5 : FVec F S4096 .f32) : IVec S_ 1 :=
  let main_v0 : FVec F S1x1x4096 .f32 := Host.absf main_arg0
  let main_cst : FVec F S_ .f32 := constant S_ .f32 0x7F800000#32
  let main_v1 : FVec F S1x1x4096 .f32 := broadcastInDim S1x1x4096 ![] bcast_S_S1x1x4096 main_cst
  let main_v2 : IVec S1x1x4096 1 := cmpf .olt main_v0 main_v1
  let main_c : IVec S_ 1 := constantI S_ 1 1#1
  let main_v3 : IVec S_ 1 := (fun x v => Host.reduce IntOp.andi x v reducesTo_S1x1x4096_S_d0_1_2 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S256x4096 .f32 := Host.absf main_arg2
  let main_cst_2 : FVec F S_ .f32 := constant S_ .f32 0x7F800000#32
  let main_v10 : FVec F S256x4096 .f32 := broadcastInDim S256x4096 ![] bcast_S_S256x4096 main_cst_2
  let main_v11 : IVec S256x4096 1 := cmpf .olt main_v9 main_v10
  let main_c_3 : IVec S_ 1 := constantI S_ 1 1#1
  let main_v12 : IVec S_ 1 := (fun x v => Host.reduce IntOp.andi x v reducesTo_S256x4096_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S1x1x4096 : Shape := ⟨3, ![1, 1, 4096]⟩
abbrev S65536x256 : Shape := ⟨2, ![65536, 256]⟩
abbrev S256x4096 : Shape := ⟨2, ![256, 4096]⟩
abbrev S256 : Shape := ⟨1, ![256]⟩
abbrev S4096x256 : Shape := ⟨2, ![4096, 256]⟩
abbrev S4096 : Shape := ⟨1, ![4096]⟩
abbrev S1x4096 : Shape := ⟨2, ![1, 4096]⟩
abbrev S1x256 : Shape := ⟨2, ![1, 256]⟩
abbrev S8x8192x256 : Shape := ⟨3, ![8, 8192, 256]⟩
abbrev S1x128 : Shape := ⟨2, ![1, 128]⟩
abbrev S8x8192 : Shape := ⟨2, ![8, 8192]⟩
abbrev S8x512x256 : Shape := ⟨3, ![8, 512, 256]⟩
abbrev S_ : Shape := ⟨0, ![]⟩
abbrev S8x256 : Shape := ⟨2, ![8, 256]⟩
abbrev S8x1 : Shape := ⟨2, ![8, 1]⟩
abbrev S8x512 : Shape := ⟨2, ![8, 512]⟩
abbrev S8 : Shape := ⟨1, ![8]⟩
abbrev S1x8x1 : Shape := ⟨3, ![1, 8, 1]⟩
abbrev S1 : Shape := ⟨1, ![1]⟩
abbrev S1x1x1 : Shape := ⟨3, ![1, 1, 1]⟩
abbrev S1x8x8192 : Shape := ⟨3, ![1, 8, 8192]⟩
abbrev S1x5 : Shape := ⟨2, ![1, 5]⟩
abbrev S5 : Shape := ⟨1, ![5]⟩

abbrev nBuf : Space → Nat
  | .hbm => 15
  | .vmem => 14
  | .smem => 0
  | _ => 0

abbrev bufTy : (tb : Table) → Fin (tcTables nBuf tb) → BufTy
  | .hbm, ⟨0, _⟩ => ⟨S1x1x4096, .f32⟩
  | .hbm, ⟨1, _⟩ => ⟨S65536x256, .f32⟩
  | .hbm, ⟨2, _⟩ => ⟨S256x4096, .f32⟩
  | .hbm, ⟨3, _⟩ => ⟨S256, .f32⟩
  | .hbm, ⟨4, _⟩ => ⟨S4096x256, .f32⟩
  | .hbm, ⟨5, _⟩ => ⟨S4096, .f32⟩
  | .hbm, ⟨6, _⟩ => ⟨S1x4096, .f32⟩
  | .hbm, ⟨7, _⟩ => ⟨S1x256, .f32⟩
  | .hbm, ⟨8, _⟩ => ⟨S1x4096, .f32⟩
  | .hbm, ⟨9, _⟩ => ⟨S8x8192x256, .f32⟩
  | .hbm, ⟨10, _⟩ => ⟨S1x4096, .f32⟩
  | .hbm, ⟨11, _⟩ => ⟨S1x128, .i32⟩
  | .hbm, ⟨12, _⟩ => ⟨S1x1x4096, .f32⟩
  | .hbm, ⟨13, _⟩ => ⟨S1x5, .i32⟩
  | .hbm, ⟨14, _⟩ => ⟨S5, .i32⟩
  | .local _ .vmem, ⟨0, _⟩ => ⟨S1x4096, .f32⟩
  | .local _ .vmem, ⟨1, _⟩ => ⟨S1x256, .f32⟩
  | .local _ .vmem, ⟨2, _⟩ => ⟨S1x4096, .f32⟩
  | .local _ .vmem, ⟨3, _⟩ => ⟨S1x4096, .f32⟩
  | .local _ .vmem, ⟨4, _⟩ => ⟨S1x128, .i32⟩
  | .local _ .vmem, ⟨5, _⟩ => ⟨S256x4096, .f32⟩
  | .local _ .vmem, ⟨6, _⟩ => ⟨S4096x256, .f32⟩
  | .local _ .vmem, ⟨7, _⟩ => ⟨S8x8192, .f32⟩
  | .local _ .vmem, ⟨8, _⟩ => ⟨S8x512x256, .f32⟩
  | .local _ .vmem, ⟨9, _⟩ => ⟨S8x512x256, .f32⟩
  | .local _ .vmem, ⟨10, _⟩ => ⟨S8x512x256, .f32⟩
  | .local _ .vmem, ⟨11, _⟩ => ⟨S8x512x256, .f32⟩
  | .local _ .vmem, ⟨12, _⟩ => ⟨S8x512x256, .f32⟩
  | .local _ .vmem, ⟨13, _⟩ => ⟨S8x512x256, .f32⟩
  | _, _ => ⟨S1x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_scratch8 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1x1x4096 : Shape := ⟨3, ![1, 1, 4096]⟩
abbrev S65536x256 : Shape := ⟨2, ![65536, 256]⟩
abbrev S256x4096 : Shape := ⟨2, ![256, 4096]⟩
abbrev S256 : Shape := ⟨1, ![256]⟩
abbrev S4096x256 : Shape := ⟨2, ![4096, 256]⟩
abbrev S4096 : Shape := ⟨1, ![4096]⟩
abbrev S1x256 : Shape := ⟨2, ![1, 256]⟩
abbrev S256x65536 : Shape := ⟨2, ![256, 65536]⟩
abbrev S1x65536 : Shape := ⟨2, ![1, 65536]⟩
abbrev S_ : Shape := ⟨0, ![]⟩
abbrev S1 : Shape := ⟨1, ![1]⟩
abbrev S1x1 : Shape := ⟨2, ![1, 1]⟩
abbrev S1x4096 : Shape := ⟨2, ![1, 4096]⟩
abbrev S65536 : Shape := ⟨1, ![65536]⟩
abbrev S5 : Shape := ⟨1, ![5]⟩

abbrev nBuf : Space → Nat
  | .hbm => 38
  | .vmem => 0
  | .smem => 0
  | _ => 0

abbrev bufTy : (tb : Table) → Fin (tcTables nBuf tb) → BufTy
  | .hbm, ⟨0, _⟩ => ⟨S1x1x4096, .f32⟩
  | .hbm, ⟨1, _⟩ => ⟨S65536x256, .f32⟩
  | .hbm, ⟨2, _⟩ => ⟨S256x4096, .f32⟩
  | .hbm, ⟨3, _⟩ => ⟨S256, .f32⟩
  | .hbm, ⟨4, _⟩ => ⟨S4096x256, .f32⟩
  | .hbm, ⟨5, _⟩ => ⟨S4096, .f32⟩
  | .hbm, ⟨6, _⟩ => ⟨S4096, .f32⟩
  | .hbm, ⟨7, _⟩ => ⟨S256, .f32⟩
  | .hbm, ⟨8, _⟩ => ⟨S256, .f32⟩
  | .hbm, ⟨9, _⟩ => ⟨S1x256, .f32⟩
  | .hbm, ⟨10, _⟩ => ⟨S256x65536, .f32⟩
  | .hbm, ⟨11, _⟩ => ⟨S1x65536, .f32⟩
  | .hbm, ⟨12, _⟩ => ⟨S_, .f32⟩
  | .hbm, ⟨13, _⟩ => ⟨S1x65536, .f32⟩
  | .hbm, ⟨14, _⟩ => ⟨S1x65536, .f32⟩
  | .hbm, ⟨15, _⟩ => ⟨S_, .f32⟩
  | .hbm, ⟨16, _⟩ => ⟨S1, .f32⟩
  | .hbm, ⟨17, _⟩ => ⟨S_, .f32⟩
  | .hbm, ⟨18, _⟩ => ⟨S1, .f32⟩
  | .hbm, ⟨19, _⟩ => ⟨S1, .f32⟩
  | .hbm, ⟨20, _⟩ => ⟨S1x1, .f32⟩
  | .hbm, ⟨21, _⟩ => ⟨S1x65536, .f32⟩
  | .hbm, ⟨22, _⟩ => ⟨S1x65536, .f32⟩
  | .hbm, ⟨23, _⟩ => ⟨S1x65536, .f32⟩
  | .hbm, ⟨24, _⟩ => ⟨S_, .f32⟩
  | .hbm, ⟨25, _⟩ => ⟨S1, .f32⟩
  | .hbm, ⟨26, _⟩ => ⟨S1x1, .f32⟩
  | .hbm, ⟨27, _⟩ => ⟨S1x65536, .f32⟩
  | .hbm, ⟨28, _⟩ => ⟨S1x65536, .f32⟩
  | .hbm, ⟨29, _⟩ => ⟨S1x256, .f32⟩
  | .hbm, ⟨30, _⟩ => ⟨S256x4096, .f32⟩
  | .hbm, ⟨31, _⟩ => ⟨S1x4096, .f32⟩
  | .hbm, ⟨32, _⟩ => ⟨S1x4096, .f32⟩
  | .hbm, ⟨33, _⟩ => ⟨S1x4096, .f32⟩
  | .hbm, ⟨34, _⟩ => ⟨S65536, .f32⟩
  | .hbm, ⟨35, _⟩ => ⟨S5, .f32⟩
  | .hbm, ⟨36, _⟩ => ⟨S5, .i32⟩
  | .hbm, ⟨37, _⟩ => ⟨S1x1x4096, .f32⟩
  | _, _ => ⟨S1x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_values : Ref sig .tc := ⟨.hbm, 35, rfl⟩
abbrev main_indices : Ref sig .tc := ⟨.hbm, 36, rfl⟩
abbrev main_v25 : Ref sig .tc := ⟨.hbm, 37, rfl⟩

abbrev nD : Nat := 1
abbrev τ : Topo := Topo.v7x

variable {F : FTy → Type} [FloatOps F]
-- ==== Proof.K.Body.lean ====
module

public import proofs.«01_k».proof.Proof.Gen.KernelIdeal.Frame
public import Idealize.ShloMosaic.Lib.Pipeline.ValueKit
public import Idealize.ShloMosaic.Lib.Pipeline.ReadBack
public import Idealize.ShloMosaic.Lib.Pointwise

/-! What the kernel's body leaves in its two output buffers, as functions of the arrays it reads. -/

@[expose] public section
set_option maxRecDepth 16384
noncomputable section
namespace Cert.KernelIdeal.Value
open Cert.KernelIdeal Cert.KernelIdeal.Gen Idealize.ShloMosaic Idealize.ShloMosaic.TcCoe Idealize.SL.Sem
variable {F : FTy → Type} [FloatOps F]
variable (m : (ℓ : Loc nD τ sig) → Buf (Elt F) ℓ)

/-- A load of a whole buffer after a transfer that filled it whole reads what the transfer brought. -/
theorem readCov_whole {Val : EltTy → Type} [∀ e, Nonempty (Val e)] {sig : RefSig} {κ : Kind} {sp : Space} {S : Shape} {e : EltTy}
    (v : View sig κ sp S e) {off : Fin S.rank → Nat} (inb : ∀ a, off a + S.size a ≤ S.size a) (w : S.Idx → Val e)
    (L : List (View.Piece Val S e)) (h : ∀ a, off a = 0) :
    v.readCov ((⟨Rect.whole S, w⟩ : View.Piece Val S e) :: L) (Rect.unit off (no_index S.size) inb).toLoadRect = w :=
  View.readCov_cons_unit_lit' v _ inb w L (fun _ => rfl) h

/-- The 512 columns of the memory that start at column `o`. -/
def blkAt (M : Vec F S8x8192x256 .f32) (o : ℕ) : Vec F S8x512x256 .f32 := fun i =>
  M (ix3 (i 0) ⟨(o + (i 1).val) % 8192, Nat.mod_lt _ (by decide)⟩ (i 2))

/-- A copy of 512 columns of the memory reads `blkAt` of it. -/
theorem read_slice (c : Dev nD) (o : ℕ) (h) (f : Buf (Elt F) ((c : Thread nD τ).loc main_v3)) :
    View.read (Elt F) ((View.whole main_v3).slice (Rect.unit ![0, o, 0] ![8, 512, 256] h)) f = blkAt (F := F) f o := by
  have h1 : o + 512 ≤ 8192 := h 1
  funext i
  refine (congrArg (show Vec F S8x8192x256 .f32 from f) (funext fun a => ?_) : f _ = f _)
  apply Fin.ext
  match a with
  | 0 => exact (ValueKit.view_emb_slice_whole_unit_val main_v3 _ _ _ i 0).trans (Nat.zero_add _)
  | 1 =>
    have hi : (i 1).val < 512 := (i 1).isLt
    exact (ValueKit.view_emb_slice_whole_unit_val main_v3 _ _ _ i 1).trans
      (Nat.mod_eq_of_lt (by omega : o + (i 1).val < 8192)).symm
  | 2 => exact (ValueKit.view_emb_slice_whole_unit_val main_v3 _ _ _ i 2).trans (Nat.zero_add _)

/-- Running maximum, normaliser and weighted sum of the memory, one of each per row. -/
abbrev St (F : FTy → Type) := FVec F S8x1 .f32 × FVec F S8x1 .f32 × FVec F S8x256 .f32

/-- The state before the first block. -/
def st0 : St F := (k0_pay2, k0_pay3, k0_pay4)

/-- One block folded into the state. -/
def step (q : FVec F S8x256 .f32) (s : St F) (x : Vec F S8x512x256 .f32) : St F :=
  (k0_pay7 q s.1 x, k0_pay10 q s.1 s.2.1 x, k0_pay11 q s.1 s.2.2 x)

/-- The state after the first `n` blocks. -/
def stAt (q : FVec F S8x256 .f32) (M : Vec F S8x8192x256 .f32) : ℕ → St F
  | 0 => st0
  | n + 1 => step q (stAt q M n) (blkAt M (512 * n))

/-- The output row from the last state: the rows brought together, divided, projected and shifted. -/
def outRow (s : St F) (Wo : Vec F S4096x256 .f32) (bo : Vec F S1x4096 .f32) : FVec F S1x4096 .f32 :=
  k0_pay115 s.1 s.2.1 s.2.2 (shapeCast S1x1x1 (multiReduction .maximumf [1, 2] S1 (shapeCast S1x8x1 s.1 shapeCasts_S8x1_S1x8x1) 0xFF800000#32 reduces_S1x8x1_S1 (.inl rfl) rfl) shapeCasts_S1_S1x1x1) Wo bo

/-- One block's scores, as the kernel stores them in its score table. -/
def scoreBlk (q : FVec F S8x256 .f32) (x : Vec F S8x512x256 .f32) : FVec F S8x512 .f32 := k0_pay6 q x

/-- The whole score table: column `c` holds column `c % 512` of the scores of block `c / 512`. -/
def scoreTab (q : FVec F S8x256 .f32) (M : Vec F S8x8192x256 .f32) : Vec F S8x8192 .f32 := fun i =>
  scoreBlk q (blkAt M (512 * ((i 1).val / 512))) (ix2 (i 0) ⟨(i 1).val % 512, Nat.mod_lt _ (by decide)⟩)

/-- A block of scores stored at a multiple of 512 is that part of the score table. -/
theorem scoreTab_piece (q : FVec F S8x256 .f32) (M : Vec F S8x8192x256 .f32) (o : ℕ) (h) (ho : o % 512 = 0)
    (x : (Rect.unit (s := S8x8192) ![0, o] ![8, 512] h).shape.Idx) :
    scoreBlk q (blkAt M o) x = scoreTab q M ((Rect.unit (s := S8x8192) ![0, o] ![8, 512] h).emb x) := by
  have e0 : (((Rect.unit (s := S8x8192) ![0, o] ![8, 512] h).emb x 0 : Fin _) : ℕ) = x 0 :=
    (ValueKit.rect_emb_unit_val (s := S8x8192) _ _ _ x 0).trans (Nat.zero_add _)
  have e1 : (((Rect.unit (s := S8x8192) ![0, o] ![8, 512] h).emb x 1 : Fin _) : ℕ) = o + x 1 :=
    ValueKit.rect_emb_unit_val (s := S8x8192) _ _ _ x 1
  have hx : (x 1).val < 512 := (x 1).isLt
  unfold scoreTab
  rw [show 512 * (((Rect.unit (s := S8x8192) ![0, o] ![8, 512] h).emb x 1).val / 512) = o by rw [e1]; omega]
  refine congrArg (scoreBlk q (blkAt M o)) (funext fun a => Fin.ext ?_)
  match a with
  | 0 => exact e0.symm
  | 1 => exact (show (o + (x 1).val) % 512 = (x 1).val by omega).symm.trans (congrArg (· % 512) e1.symm)

/-- An entry lies in a band of 512 columns exactly when its column does. -/
theorem mem_columns (o : ℕ) (h) (y : S8x8192.Idx) :
    y ∈ (Rect.unit (s := S8x8192) ![0, o] ![8, 512] h).set ↔ o ≤ (y 1).val ∧ (y 1).val < o + 512 := by
  rw [Rect.mem_set_unit]
  refine ⟨fun g => g 1, fun g a => ?_⟩
  match a with
  | 0 => exact ⟨Nat.zero_le _, lt_of_lt_of_eq (y 0).isLt (Nat.zero_add 8).symm⟩
  | 1 => exact g

/-- Stores that are parts of one table, together covering it, read back whole as that table. -/
theorem readCov_of_pieces {sig : RefSig} {κ : Kind} {sp : Space} {S : Shape} {e : EltTy} {Val : EltTy → Type}
    [∀ e, Nonempty (Val e)] (v : View sig κ sp S e) (G : S.Idx → Val e) {off : Fin S.rank → ℕ}
    (inb : ∀ a, off a + S.size a ≤ S.size a) (L : List (View.Piece Val S e)) (h0 : ∀ a, off a = 0)
    (hG : View.PiecesOf G L) (hc : ∀ y, ∃ p ∈ L, y ∈ p.1.set) :
    v.readCov L (Rect.unit off (no_index S.size) inb).toLoadRect = G := by
  rw [View.readCov_eq_canon']
  funext j
  refine (View.canon_apply_of_pieces G L hG.mem _ (hc _)).trans (congrArg G (funext fun a => Fin.ext ?_))
  exact (ValueKit.rect_emb_unit_val (s := S) off S.size inb j a).trans (by rw [h0 a, Nat.zero_add])

/-- The position the kernel picks from a table of scores: the least one that holds the greatest score. -/
def pick (sc : Vec F S8x8192 .f32) : BitVec 32 := extractAt ![0, 0, 0] (k0_pay118 sc) inpos_S1x1x1_p0_0_0

/-- The table with one position taken out. -/
def mask (sc : Vec F S8x8192 .f32) (p : BitVec 32) : Vec F S8x8192 .f32 := k0_pay119 sc k0_pay116 p

/-- The table after `n` picks. -/
def tabAt (sc : Vec F S8x8192 .f32) : ℕ → Vec F S8x8192 .f32
  | 0 => sc
  | n + 1 => mask (tabAt sc n) (pick (tabAt sc n))

/-- A row of lanes with lane `n` set to `p`. -/
def setLane (r : IVec S1x128 32) (n : BitVec 32) (p : BitVec 32) : IVec S1x128 32 :=
  select (cmpi .eq (iota .tc S1x128 32 [1] iota_S1x128_d1_w32) (broadcast S1x128 n)) (broadcast S1x128 p) r

/-- The row of lanes the kernel stores: the first five hold the five picks in turn. -/
def topRow (sc : Vec F S8x8192 .f32) : IVec S1x128 32 :=
  setLane (setLane (setLane (setLane (setLane k0_pay117 0#32 (pick (tabAt sc 0))) 1#32 (pick (tabAt sc 1)))
    2#32 (pick (tabAt sc 2))) 3#32 (pick (tabAt sc 3))) 4#32 (pick (tabAt sc 4))

/-- The first output block: the output row of the state after the sixteen blocks of memory. -/
theorem outs_fst (c : Dev nD) (t : Fin cfg0.N) : (outsAt0 m c t).1 = outRow (stAt (k0_pay1 (iblk m c 0 t) (V m c main_arg2) (iblk m c 1 t)) (V m c main_v3) 16) (V m c main_arg4) (iblk m c 2 t) := by
  unfold outsAt0
  frame_open
  simp (disch := decide) only [↓ View.readCov_skip, ↓ View.readCov_cons_toLoadRect, ↓ View.readCov_fill]
  frame_out
  simp (disch := decide) only [readCov_whole, read_unread_whole, read_slice]
  simp only [View.read_whole, ReadAs.apply]
  simp only [outRow, stAt, step, st0, Nat.reduceMul]
  unfold_payloads
  rfl

/-- The second output block: the picks from the whole table of scores. -/
theorem outs_snd (c : Dev nD) (t : Fin cfg0.N) : (outsAt0 m c t).2 = topRow (scoreTab (k0_pay1 (iblk m c 0 t) (V m c main_arg2) (iblk m c 1 t)) (V m c main_v3)) := by
  unfold outsAt0
  frame_open
  simp (disch := decide) only [↓ View.readCov_skip, ↓ View.readCov_cons_toLoadRect, ↓ View.readCov_fill]
  frame_out
  simp (disch := decide) only [readCov_whole, read_unread_whole, read_slice]
  simp only [View.read_whole, ReadAs.apply]
  generalize V m c main_v3 = M
  generalize (k0_pay1 (iblk m c 0 t) (V m c main_arg2) (iblk m c 1 t)) = q
  have H : ∀ L, View.PiecesOf (scoreTab q M) L → (∀ y, ∃ p ∈ L, y ∈ p.1.set) →
      (View.whole cc0_scratch2).readCov L (Rect.unit (s := S8x8192) ![0, 0] ![8, 8192] inb_S8x8192_S8x8192_0_0).toLoadRect = scoreTab q M :=
    fun L => readCov_of_pieces (View.whole cc0_scratch2) (scoreTab q M) inb_S8x8192_S8x8192_0_0 L (by decide)
  rw [H _ ?_ ?_]
  · generalize scoreTab q M = sc
    simp only [topRow, setLane, tabAt, pick, mask]
    unfold_payloads
    rfl
  · refine ⟨?_, ?_, ?_, ?_, ?_, ?_, ?_, ?_, ?_, ?_, ?_, ?_, ?_, ?_, ?_, ?_, trivial⟩ <;>
      exact fun x => scoreTab_piece q M _ (by decide) rfl x
  · intro y
    have h1 : (y 1).val < 8192 := (y 1).isLt
    simp only [List.mem_cons, List.not_mem_nil, exists_eq_or_imp, mem_columns, false_and, exists_false, or_false, exists_eq_left]
    revert h1
    generalize (y 1).val = n
    intro h1
    replace h1 : n < 8192 := h1
    omega

end Cert.KernelIdeal.Value
-- ==== Proof.K.Run.lean ====
module

public import proofs.«01_k».proof.Proof.K.Body
public import Idealize.ShloMosaic.Lib.Quiescent

/-! The kernel's run: both results as functions of the arguments. -/

@[expose] public section
set_option maxRecDepth 16384
noncomputable section
namespace Cert.KernelIdeal.Value
open Cert.KernelIdeal Cert.KernelIdeal.Gen Idealize.ShloMosaic Idealize.ShloMosaic.TcCoe Idealize.SL.Sem
variable {F : FTy → Type} [FloatOps F]
variable (m : (ℓ : Loc nD τ sig) → Buf (Elt F) ℓ) (ρ : Dev nD → PrngReg)

/-- What the region finds in the memory buffer: the memory as eight rows of 8192 entries. -/
theorem mem_found (c : Dev nD) : V m c main_v3
    = shapeCast S8x8192x256 (m ((c : Thread nD τ).loc main_arg1)) shapeCasts_S65536x256_S8x8192x256 := by
  simp only [V, V0, hostOps0, List.flatten_cons, List.flatten_nil, List.append_nil]
  after_results
  rfl

/-- The region finds the hidden state as one row. -/
theorem h_found (c : Dev nD) : V m c main_v0
    = shapeCast S1x4096 (m ((c : Thread nD τ).loc main_arg0)) shapeCasts_S1x1x4096_S1x4096 := by
  simp only [V, V0, hostOps0, List.flatten_cons, List.flatten_nil, List.append_nil]
  after_results
  rfl

/-- The region finds the query bias as one row. -/
theorem bq_found (c : Dev nD) : V m c main_v1
    = shapeCast S1x256 (m ((c : Thread nD τ).loc main_arg3)) shapeCasts_S256_S1x256 := by
  simp only [V, V0, hostOps0, List.flatten_cons, List.flatten_nil, List.append_nil]
  after_results
  rfl

/-- The region finds the output bias as one row. -/
theorem bo_found (c : Dev nD) : V m c main_v2
    = shapeCast S1x4096 (m ((c : Thread nD τ).loc main_arg5)) shapeCasts_S4096_S1x4096 := by
  simp only [V, V0, hostOps0, List.flatten_cons, List.flatten_nil, List.append_nil]
  after_results
  rfl

/-- Every window's block index at the one point (decided). -/
theorem idx : ∀ t : Fin cfg0.N, win0_0.index t = ![0, 0] ∧ win0_1.index t = ![0, 0] ∧ win0_2.index t = ![0, 0] :=
  (by decide +kernel : ∀ t : Fin grid0.N, _)

/-- The one point's block of each staged argument is the argument, reshaped. -/
theorem block_h (c : Dev nD) : iblk m c 0 t0_0
    = shapeCast S1x4096 (m ((c : Thread nD τ).loc main_arg0)) shapeCasts_S1x1x4096_S1x4096 := by
  rw [← h_found]
  blk_ext! [iblk, idx t0_0]

/-- The same of the query bias. -/
theorem block_bq (c : Dev nD) : iblk m c 1 t0_0
    = shapeCast S1x256 (m ((c : Thread nD τ).loc main_arg3)) shapeCasts_S256_S1x256 := by
  rw [← bq_found]
  blk_ext! [iblk, idx t0_0]

/-- The same of the output bias. -/
theorem block_bo (c : Dev nD) : iblk m c 2 t0_0
    = shapeCast S1x4096 (m ((c : Thread nD τ).loc main_arg5)) shapeCasts_S4096_S1x4096 := by
  rw [← bo_found]
  blk_ext! [iblk, idx t0_0]

/-- The first output window's array ends at the row the body leaves. -/
theorem final_row (c : Dev nD) : (dats m 0 c).arrAt 3 cfg0.N = (outsAt0 m c t0_0).1 := by
  refine (dats m 0 c).arrAt_eq_of_after_last 3 t0_0 (by decide +kernel) _ fun j => ?_
  blk_simp
  rw [after0_3]

/-- The second output window's array ends at the lanes the body leaves. -/
theorem final_lanes (c : Dev nD) : (dats m 0 c).arrAt 4 cfg0.N = (outsAt0 m c t0_0).2 := by
  refine (dats m 0 c).arrAt_eq_of_after_last 4 t0_0 (by decide +kernel) _ fun j => ?_
  blk_simp
  rw [after0_4]

/-- The kernel's query, from the arguments. -/
def query (c : Dev nD) : Vec F S8x256 .f32 :=
  k0_pay1 (shapeCast S1x4096 (m ((c : Thread nD τ).loc main_arg0)) shapeCasts_S1x1x4096_S1x4096) (m ((c : Thread nD τ).loc main_arg2))
    (shapeCast S1x256 (m ((c : Thread nD τ).loc main_arg3)) shapeCasts_S256_S1x256)

/-- The memory as the body reads it. -/
def memo (c : Dev nD) : Vec F S8x8192x256 .f32 :=
  shapeCast S8x8192x256 (m ((c : Thread nD τ).loc main_arg1)) shapeCasts_S65536x256_S8x8192x256

/-- The first result from the arguments. -/
def res0 (c : Dev nD) : Buf (Elt F) ((c : Thread nD τ).loc main_v5) :=
  shapeCast S1x1x4096 (outRow (stAt (query m c) (memo m c) 16) (m ((c : Thread nD τ).loc main_arg4))
    (shapeCast S1x4096 (m ((c : Thread nD τ).loc main_arg5)) shapeCasts_S4096_S1x4096)) shapeCasts_S1x4096_S1x1x4096

/-- The second result from the arguments. -/
def res1 (c : Dev nD) : Buf (Elt F) ((c : Thread nD τ).loc main_v7) :=
  shapeCast S5 (extractStridedSlice S1x5 ![0, 0] (topRow (scoreTab (query m c) (memo m c))) slices_S1x128_S1x5_0_0) shapeCasts_S1x5_S5

/-- After the region the first result's buffer holds the row, reshaped. -/
theorem tail_row (c : Dev nD) : Pipeline.afterTail₀ cfgs (dats m) 0 (V0 m) [hostOps1] c main_v5 = res0 m c := by
  unfold Pipeline.afterTail₀ hostOps1
  simp only [List.flatten_cons, List.flatten_nil, List.append_nil]
  after_region_results
  erw [Pipeline.withArrays_arr _ launch0.win.arr_inj c _ _ 3]
  show _ = res0 m c
  have e := (final_row m c).trans (outs_fst m c t0_0)
  rw [block_h, block_bq, block_bo, mem_found, V_main_arg2, V_main_arg4] at e
  unfold res0 query memo
  rw [← e]
  rfl

/-- After the region the second result's buffer holds the first five lanes. -/
theorem tail_lanes (c : Dev nD) : Pipeline.afterTail₀ cfgs (dats m) 0 (V0 m) [hostOps1] c main_v7 = res1 m c := by
  unfold Pipeline.afterTail₀ hostOps1
  simp only [List.flatten_cons, List.flatten_nil, List.append_nil]
  after_region_results
  erw [Pipeline.withArrays_arr _ launch0.win.arr_inj c _ _ 4]
  show _ = res1 m c
  have e := (final_lanes m c).trans (outs_snd m c t0_0)
  rw [block_h, block_bq, mem_found, V_main_arg2] at e
  unfold res1 query memo
  rw [← e]
  rfl

/-- The kernel's run: both results at their values from the arguments. -/
theorem run_results : θ_run defs (onTc (τ := τ) (main (F := F))) ⟨m, fun _ => 0, ρ⟩ fun r => ∀ c : Dev nD,
      r.2.mem ((c : Thread nD τ).loc main_v5) = res0 m c ∧ r.2.mem ((c : Thread nD τ).loc main_v7) = res1 m c :=
  (θ_run defs _ _).mono (fun _ h c => ⟨(h.rest_eq c main_v5 (by decide)).trans (tail_row m c),
    (h.rest_eq c main_v7 (by decide)).trans (tail_lanes m c)⟩) (run_main m ρ)

end Cert.KernelIdeal.Value
end
-- ==== Proof.K.Math.lean ====
module

public import Idealize.ShloMosaic.PureOps.Ideal
public import Mathlib.Analysis.SpecialFunctions.Exp
public import Mathlib.Data.EReal.Operations

/-! Sums and greatest values of exponentials of real scores, read in the extended reals. -/

@[expose] public section
noncomputable section
namespace Cert.KernelIdeal.Value
open Idealize.ShloMosaic

/-- A sum of reals, each read in the extended reals, is the real sum read there. -/
theorem coe_sum {ι : Type} (A : Finset ι) (f : ι → ℝ) : (∑ i ∈ A, (f i : EReal)) = ((∑ i ∈ A, f i : ℝ) : EReal) := by
  classical
  induction A using Finset.induction_on with
  | empty => simp
  | insert a A ha ih => rw [Finset.sum_insert ha, Finset.sum_insert ha, ih, EReal.coe_add]

/-- The exponential of a difference of reals. -/
theorem exp_coe_sub (a b : ℝ) : Ideal.exp ((a : EReal) - (b : EReal)) = ((Real.exp (a - b) : ℝ) : EReal) := by
  rw [← EReal.coe_sub, Ideal.exp_coe]

/-- The greatest of finitely many reals, in the extended reals: `⊥` for none. -/
def top {ι : Type} (A : Finset ι) (s : ι → ℝ) : EReal := A.sup fun k => (s k : EReal)

/-- Of at least one real the greatest is one of them. -/
theorem top_mem {ι : Type} (A : Finset ι) (s : ι → ℝ) (hA : A.Nonempty) : ∃ k ∈ A, top A s = (s k : EReal) :=
  Finset.exists_mem_eq_sup A hA _

/-- Each of the reals is at most the greatest. -/
theorem le_top {ι : Type} {A : Finset ι} (s : ι → ℝ) {k : ι} (hk : k ∈ A) : (s k : EReal) ≤ top A s :=
  Finset.le_sup (f := fun k => (s k : EReal)) hk

/-- Weighted exponentials measured from the greatest score, brought to another base point. -/
theorem rescale {ι : Type} (A : Finset ι) (s w : ι → ℝ) (b : ℝ) :
    (∑ k ∈ A, Ideal.exp (s k - top A s) * (w k : EReal)) * Ideal.exp (top A s - (b : EReal))
      = ∑ k ∈ A, Ideal.exp (s k - (b : EReal)) * (w k : EReal) := by
  rcases A.eq_empty_or_nonempty with rfl | hA
  · simp
  · obtain ⟨k₀, -, e⟩ := top_mem A s hA
    simp only [e, exp_coe_sub, ← EReal.coe_mul, coe_sum]
    congr 1
    rw [Finset.sum_mul]
    refine Finset.sum_congr rfl fun k _ => ?_
    rw [mul_right_comm, ← Real.exp_add]
    congr 2
    ring

/-- The same with every weight one. -/
theorem rescale_one {ι : Type} (A : Finset ι) (s : ι → ℝ) (b : ℝ) :
    (∑ k ∈ A, Ideal.exp (s k - top A s)) * Ideal.exp (top A s - (b : EReal)) = ∑ k ∈ A, Ideal.exp (s k - (b : EReal)) := by
  simpa using rescale A s (fun _ => 1) b

/-- The greatest of the first `a + b` reals. -/
theorem top_range_add (s : ℕ → ℝ) (a b : ℕ) :
    top (Finset.range (a + b)) s
      = max (top (Finset.range a) s) (Finset.univ.fold max ⊥ fun c : Fin b => (s (a + c) : EReal)) := by
  apply le_antisymm
  · refine Finset.sup_le fun k hk => ?_
    rcases lt_or_ge k a with h | h
    · exact le_trans (le_top s (Finset.mem_range.mpr h)) (le_max_left _ _)
    · have hb : k - a < b := by have := Finset.mem_range.mp hk; omega
      refine le_trans ?_ (le_max_right _ _)
      have e : a + ((⟨k - a, hb⟩ : Fin b) : ℕ) = k := Nat.add_sub_cancel' h
      rw [← e]
      exact Finset.le_sup (f := fun c : Fin b => (s (a + c) : EReal)) (Finset.mem_univ (⟨k - a, hb⟩ : Fin b))
  · refine max_le (Finset.sup_le fun k hk => le_top s (Finset.mem_range.mpr ?_)) (Finset.sup_le fun c _ => le_top s (Finset.mem_range.mpr ?_))
    · have := Finset.mem_range.mp hk; omega
    · have := c.isLt; omega

/-- A sum over the first `a + b` numbers, the last `b` numbered from zero. -/
theorem sum_range_add (f : ℕ → EReal) (a b : ℕ) :
    (∑ k ∈ Finset.range (a + b), f k) = (∑ k ∈ Finset.range a, f k) + ∑ c : Fin b, f (a + c) := by
  rw [Finset.sum_range_add, Finset.sum_range (fun x => f (a + x))]

end Cert.KernelIdeal.Value
-- ==== Proof.K.Read.lean ====
module

public import proofs.«01_k».proof.Proof.K.Body
public import proofs.«01_k».proof.Proof.K.Math
public import Idealize.ShloMosaic.PureOps.Ideal

/-! The kernel's values over the extended reals, entry by entry, and the state after each block of memory. -/

@[expose] public section
set_option maxRecDepth 16384
noncomputable section
namespace Cert.KernelIdeal.Value
open Cert.KernelIdeal Cert.KernelIdeal.Gen Idealize.ShloMosaic

/-- The word the maxima start at is `⊥`. -/
theorem ofBits_neg_inf : Ideal.ofBits .f32 0xFF800000#32 = ⊥ := by simp [Ideal.ofBits, Ideal.ieee]

/-- The word of the query's scale is one sixteenth. -/
theorem ofBits_sixteenth : Ideal.ofBits .f32 0x3D800000#32 = (((1 : ℝ) / 16 : ℝ) : EReal) := by
  simp [Ideal.ofBits, Ideal.ieee, -EReal.coe_mul]
  norm_num

/-- A score: the row's query against one memory row. -/
theorem score_apply (q : FVec Ideal S8x256 .f32) (x : Vec Ideal S8x512x256 .f32) (r : Fin 8) (c : Fin 512) :
    scoreBlk q x (ix2 r c) = ∑ d : Fin 256, q (ix2 r d) * x (ix3 r c d) := by
  unfold scoreBlk
  unfold_payloads
  pointwise

/-- A block's new running maximum. -/
theorem max_apply (q : FVec Ideal S8x256 .f32) (m : FVec Ideal S8x1 .f32) (x : Vec Ideal S8x512x256 .f32) (r : Fin 8) (z : Fin 1) :
    k0_pay7 q m x (ix2 r z)
      = max (m (ix2 r z)) (Finset.univ.fold max ⊥ fun c : Fin 512 => ∑ d : Fin 256, q (ix2 r d) * x (ix3 r c d)) := by
  unfold_payloads
  pointwise
  rw [ofBits_neg_inf]

/-- A block's new running sum, in terms of its new running maximum. -/
theorem sum_apply (q : FVec Ideal S8x256 .f32) (m l : FVec Ideal S8x1 .f32) (x : Vec Ideal S8x512x256 .f32) (r : Fin 8) (z : Fin 1) :
    k0_pay10 q m l x (ix2 r z)
      = l (ix2 r z) * Ideal.exp (m (ix2 r z) - k0_pay7 q m x (ix2 r 0))
        + ∑ c : Fin 512, Ideal.exp ((∑ d : Fin 256, q (ix2 r d) * x (ix3 r c d)) - k0_pay7 q m x (ix2 r 0)) := by
  obtain rfl : z = 0 := Subsingleton.elim _ _
  rw [max_apply]
  unfold_payloads
  pointwise
  rw [ofBits_neg_inf]

/-- A block's new running weighted sum of memory rows, in terms of its new running maximum. -/
theorem acc_apply (q : FVec Ideal S8x256 .f32) (m : FVec Ideal S8x1 .f32) (a : FVec Ideal S8x256 .f32) (x : Vec Ideal S8x512x256 .f32) (r : Fin 8) (d : Fin 256) :
    k0_pay11 q m a x (ix2 r d)
      = a (ix2 r d) * Ideal.exp (m (ix2 r 0) - k0_pay7 q m x (ix2 r 0))
        + ∑ c : Fin 512, Ideal.exp ((∑ d : Fin 256, q (ix2 r d) * x (ix3 r c d)) - k0_pay7 q m x (ix2 r 0)) * x (ix3 r c d) := by
  rw [max_apply]
  unfold_payloads
  pointwise
  rw [ofBits_neg_inf]

/-- The scaled query: every row holds the same one. -/
theorem query_apply (h : Vec Ideal S1x4096 .f32) (Wq : Vec Ideal S256x4096 .f32) (b : Vec Ideal S1x256 .f32) (r : Fin 8) (d : Fin 256) :
    k0_pay1 h Wq b (ix2 r d)
      = ((∑ j : Fin 4096, h (ix2 0 j) * Wq (ix2 d j)) + b (ix2 0 d)) * (((1 : ℝ) / 16 : ℝ) : EReal) := by
  unfold_payloads
  pointwise
  rw [ofBits_sixteenth]

/-- The start of the running state. -/
theorem st0_apply (r : Fin 8) (z : Fin 1) (d : Fin 256) :
    (st0 (F := Ideal)).1 (ix2 r z) = ⊥ ∧ (st0 (F := Ideal)).2.1 (ix2 r z) = 0 ∧ (st0 (F := Ideal)).2.2 (ix2 r d) = 0 := by
  refine ⟨?_, ?_, ?_⟩ <;> unfold st0 <;> unfold_payloads <;> pointwise
  rw [ofBits_neg_inf]

/-- An output entry: the rows' weighted sums of memory brought to the common maximum, added, divided by the total
    weight, projected, and shifted. -/
theorem out_apply (s : St Ideal) (Wo : Vec Ideal S4096x256 .f32) (bo : Vec Ideal S1x4096 .f32) (z : Fin 1) (i : Fin 4096) :
    outRow s Wo bo (ix2 z i)
      = (∑ d : Fin 256,
          Ideal.div
            (∑ r : Fin 8, s.2.2 (ix2 r d) * Ideal.exp (s.1 (ix2 r 0) - Finset.univ.fold max ⊥ fun x : Fin 8 × Fin 1 => s.1 (ix2 x.1 0)))
            (∑ r : Fin 8, s.2.1 (ix2 r 0) * Ideal.exp (s.1 (ix2 r 0) - Finset.univ.fold max ⊥ fun x : Fin 8 × Fin 1 => s.1 (ix2 x.1 0)))
          * Wo (ix2 i d)) + bo (ix2 z i) := by
  unfold outRow
  unfold_payloads
  pointwise
  simp only [ofBits_neg_inf, Finset.univ_unique, Finset.sum_singleton]

/-- The picked position, as a least word. -/
theorem pick_eq (s : Vec Ideal S8x8192 .f32) :
    pick s = Finset.univ.fold IntOp.minsi 2147483647#32 fun x : Fin 8 × Fin 8192 =>
      if s (ix2 x.1 x.2) = (Finset.univ.fold max ⊥ fun y : Fin 8 × Fin 8192 => s (ix2 y.1 y.2))
      then IntOp.addi (IntOp.muli (BitVec.ofNat 32 x.1) 8192#32) (BitVec.ofNat 32 x.2) else 65536#32 := by
  unfold pick
  unfold_payloads
  pointwise
  simp only [ofBits_neg_inf]

/-- An entry of the table with a position taken out. -/
theorem mask_apply (s : Vec Ideal S8x8192 .f32) (p : BitVec 32) (r : Fin 8) (c : Fin 8192) :
    mask s p (ix2 r c)
      = if IntOp.addi (IntOp.muli (BitVec.ofNat 32 r) 8192#32) (BitVec.ofNat 32 c) = p then ⊥ else s (ix2 r c) := by
  unfold mask
  unfold_payloads
  pointwise
  rw [ofBits_neg_inf]
  unfold Scalar.select
  simp only [show (1 : BitVec 1) = 1#1 from rfl, IntOp.cmpi_eq]

/-- An entry of a row of lanes with one lane set. -/
theorem setLane_apply (s : IVec S1x128 32) (n p : BitVec 32) (z : Fin 1) (c : Fin 128) :
    setLane s n p (ix2 z c) = if BitVec.ofNat 32 c = n then p else s (ix2 z c) := by
  unfold setLane
  pointwise
  unfold Scalar.select
  simp only [show (1 : BitVec 1) = 1#1 from rfl, IntOp.cmpi_eq]

/-- The state after `n` blocks, from real scores and a real memory: in each row the greatest score so far, the sum of
    the exponentials measured from it, and the memory rows weighted by them. -/
theorem stAt_apply (q : FVec Ideal S8x256 .f32) (M : Vec Ideal S8x8192x256 .f32) (s : Fin 8 → ℕ → ℝ) (w : Fin 8 → ℕ → Fin 256 → ℝ)
    (hs : ∀ r k, (∑ d : Fin 256, q (ix2 r d) * M (ix3 r ⟨k % 8192, Nat.mod_lt _ (by decide)⟩ d)) = (s r k : EReal))
    (hw : ∀ r k d, M (ix3 r ⟨k % 8192, Nat.mod_lt _ (by decide)⟩ d) = (w r k d : EReal)) (n : ℕ) (r : Fin 8) :
    (stAt q M n).1 (ix2 r 0) = top (Finset.range (512 * n)) (s r)
      ∧ (stAt q M n).2.1 (ix2 r 0) = ∑ k ∈ Finset.range (512 * n), Ideal.exp (s r k - top (Finset.range (512 * n)) (s r))
      ∧ ∀ d, (stAt q M n).2.2 (ix2 r d)
          = ∑ k ∈ Finset.range (512 * n), Ideal.exp (s r k - top (Finset.range (512 * n)) (s r)) * (w r k d : EReal) := by
  induction n with
  | zero =>
    exact ⟨(st0_apply r 0 0).1, (st0_apply r 0 0).2.1, fun d => (st0_apply r 0 d).2.2⟩
  | succ n ih =>
    obtain ⟨i1, i2, i3⟩ := ih
    have hs' : ∀ c : Fin 512, (∑ d : Fin 256, q (ix2 r d) * blkAt M (512 * n) (ix3 r c d)) = (s r (512 * n + c) : EReal) :=
      fun c => hs r (512 * n + c)
    have hw' : ∀ (c : Fin 512) d, blkAt M (512 * n) (ix3 r c d) = (w r (512 * n + c) d : EReal) := fun c d => hw r (512 * n + c) d
    have hm : k0_pay7 q (stAt q M n).1 (blkAt M (512 * n)) (ix2 r 0) = top (Finset.range (512 * (n + 1))) (s r) := by
      rw [max_apply, Nat.mul_succ, top_range_add, i1]
      simp only [hs']
    obtain ⟨k₀, -, e⟩ := top_mem (Finset.range (512 * (n + 1))) (s r) ⟨0, Finset.mem_range.mpr (by omega)⟩
    refine ⟨hm, ?_, fun d => ?_⟩
    · refine (sum_apply _ _ _ _ _ _).trans ?_
      rw [hm, i1, i2, e, rescale_one]
      simp only [hs']
      exact (sum_range_add (fun k => Ideal.exp (s r k - (s r k₀ : EReal))) (512 * n) 512).symm
    · refine (acc_apply _ _ _ _ _ _).trans ?_
      rw [hm, i1, i3, e, rescale]
      simp only [hs']
      simp only [hw']
      exact (sum_range_add (fun k => Ideal.exp (s r k - (s r k₀ : EReal)) * (w r k d : EReal)) (512 * n) 512).symm

end Cert.KernelIdeal.Value
-- ==== Proof.K.Ref.lean ====
module

public import proofs.«01_k».proof.Proof.Gen.ReferenceIdeal.Run
public import proofs.«01_k».proof.Proof.K.Read
public import Idealize.ShloMosaic.Lib.Pointwise

/-! The reference's two results over the extended reals, entry by entry. -/

@[expose] public section
set_option maxRecDepth 16384
noncomputable section
namespace Cert.ReferenceIdeal.Read
open Cert.ReferenceIdeal Cert.ReferenceIdeal.Gen Idealize.ShloMosaic

variable (h : FVec Ideal S1x1x4096 .f32) (M : FVec Ideal S65536x256 .f32) (Wq : FVec Ideal S256x4096 .f32) (bq : FVec Ideal S256 .f32)
  (Wo : FVec Ideal S4096x256 .f32) (bo : FVec Ideal S4096 .f32)

/-- The reference's scores. -/
def scores : FVec Ideal S1x65536 .f32 :=
  Host.divf (Host.dotGeneral dot_S1x256_S256x65536_S1x65536_1_0_0_1_n_n none (broadcastInDim S1x256 ![1] bcast_S256_S1x256_1 (addf (Host.dotGeneral dot_S256x4096_S4096_S256_1_0_0_n_n_n none Wq (shapeCast S4096 h shapeCasts_S1x1x4096_S4096)) bq)) (transpose S256x65536 [1, 0] M transposes_S65536x256_S256x65536_1_0)) (broadcastInDim S1x65536 ![] bcast_S_S1x65536 (constant S_ .f32 0x41800000#32))

/-- The largest score, as the reference takes it. -/
def most (S : FVec Ideal S1x65536 .f32) : FVec Ideal S1 .f32 :=
  maximumf (broadcastInDim S1 ![] bcast_S_S1 (constant S_ .f32 0xFF800000#32)) (Host.reduce FloatOps.maximumf S (constant S_ .f32 0xFF800000#32) reducesTo_S1x65536_S1_d1 h_S_)

/-- The exponentials of the scores less the largest. -/
def exps (S : FVec Ideal S1x65536 .f32) : FVec Ideal S1x65536 .f32 :=
  Host.exp (subf S (broadcastInDim S1x65536 ![0, 1] bcast_S1x1_S1x65536_0_1 (broadcastInDim S1x1 ![0] bcast_S1_S1x1_0 (most S))))

/-- The attention weights. -/
def weights (S : FVec Ideal S1x65536 .f32) : FVec Ideal S1x65536 .f32 :=
  Host.divf (exps S) (broadcastInDim S1x65536 ![0, 1] bcast_S1x1_S1x65536_0_1 (broadcastInDim S1x1 ![0] bcast_S1_S1x1_0 (Host.reduceAdd (exps S) (constant S_ .f32 0x00000000#32) reducesTo_S1x65536_S1_d1 h_S_)))

/-- The reference's first result. -/
def out (A : FVec Ideal S1x65536 .f32) : FVec Ideal S1x1x4096 .f32 :=
  shapeCast _ (addf (Host.dotGeneral dot_S1x256_S256x4096_S1x4096_1_0_0_1_n_n none (Host.dotGeneral dot_S1x65536_S65536x256_S1x256_1_0_0_1_n_n none A M) (transpose S256x4096 [1, 0] Wo transposes_S4096x256_S256x4096_1_0)) (broadcastInDim S1x4096 ![1] bcast_S4096_S1x4096_1 bo)) shapeCasts_S1x4096_S1x1x4096

/-- The reference's second result. -/
def chosen (A : FVec Ideal S1x65536 .f32) : Vec Ideal S5 .i32 :=
  (Host.topK S5 0 (FloatOps.cmpfTotal .gt) (shapeCast S65536 A shapeCasts_S1x65536_S65536) sliceFits_S65536_S5).2

/-- A reference score. -/
theorem scores_apply (z : Fin 1) (n : Fin 65536) : scores h M Wq bq (ix2 z n)
    = Ideal.div (∑ d : Fin 256, ((∑ j : Fin 4096, Wq (ix2 d j) * h (ix3 0 0 j)) + bq (ix1 d)) * M (ix2 n d)) (Ideal.ofBits .f32 0x41800000#32) := by
  unfold scores
  pointwise

/-- The reference's largest score, folded from `⊥`. -/
theorem most_apply (S : FVec Ideal S1x65536 .f32) (z : Fin 1) : most S (ix1 z)
    = max (Ideal.ofBits .f32 0xFF800000#32) (Finset.univ.fold max (Ideal.ofBits .f32 0xFF800000#32) fun n : Fin 65536 => S (ix2 0 n)) := by
  unfold most
  pointwise

/-- A reference exponential. -/
theorem exps_apply (S : FVec Ideal S1x65536 .f32) (z : Fin 1) (n : Fin 65536) : exps S (ix2 z n) = Ideal.exp (S (ix2 z n) - most S (ix1 0)) := by
  unfold exps
  pointwise

/-- A reference weight: an exponential over the sum of all. -/
theorem weights_apply (S : FVec Ideal S1x65536 .f32) (z : Fin 1) (n : Fin 65536) :
    weights S (ix2 z n) = Ideal.div (exps S (ix2 z n)) (∑ k : Fin 65536, exps S (ix2 0 k)) := by
  unfold weights
  pointwise

/-- An entry of the reference's first result. -/
theorem out_apply (A : FVec Ideal S1x65536 .f32) (x z : Fin 1) (i : Fin 4096) :
    out M Wo bo A (ix3 x z i) = (∑ d : Fin 256, (∑ n : Fin 65536, A (ix2 0 n) * M (ix2 n d)) * Wo (ix2 i d)) + bo (ix1 i) := by
  unfold out
  pointwise

end Cert.ReferenceIdeal.Read
end
-- ==== Proof.K.TopK.lean ====
module

public import proofs.«01_k».proof.Proof.K.Read
public import Idealize.ShloMosaic.Lib.SortFacts
public import Idealize.ShloMosaic.Lib.SortPrefix
public import Idealize.ShloMosaic.Lib.SortNet.Extract
public import Idealize.ShloMosaic.Lib.WordCmp

/-! The five greatest scores: picked one after the other by the kernel, sorted to the front by the reference. -/

@[expose] public section
set_option maxRecDepth 16384
noncomputable section
namespace Cert.KernelIdeal.Value
open Cert.KernelIdeal Cert.KernelIdeal.Gen Idealize.ShloMosaic

section selection
variable {N : ℕ} [NeZero N] (s : Fin N → ℝ)

/-- `p` is the next position to take when those of `A` are gone: of the greatest scores left, the least position. -/
def IsNext (A : Finset (Fin N)) (p : Fin N) : Prop := p ∉ A ∧ ∀ n, n ∉ A → s n ≤ s p ∧ (n < p → s n < s p)

/-- While positions are left there is a next one. -/
theorem exists_isNext (A : Finset (Fin N)) (hA : A.card < N) : ∃ p, IsNext s A p := by
  obtain ⟨a, ha⟩ : ∃ a, a ∉ A := by
    by_contra h
    push Not at h
    rw [Finset.eq_univ_iff_forall.mpr h, Finset.card_univ, Fintype.card_fin] at hA
    exact lt_irrefl _ hA
  obtain ⟨q, hq, hmax⟩ := Finset.exists_max_image Aᶜ s ⟨a, Finset.mem_compl.mpr ha⟩
  have hne : (Aᶜ.filter fun n => s n = s q).Nonempty := ⟨q, Finset.mem_filter.mpr ⟨hq, rfl⟩⟩
  have hm := Finset.mem_filter.mp (Finset.min'_mem _ hne)
  refine ⟨(Aᶜ.filter fun n => s n = s q).min' hne, Finset.mem_compl.mp hm.1, fun n hn => ?_⟩
  rw [hm.2]
  have hle := hmax n (Finset.mem_compl.mpr hn)
  refine ⟨hle, fun hlt => lt_of_le_of_ne hle fun e => ?_⟩
  exact absurd (Finset.min'_le _ n (Finset.mem_filter.mpr ⟨Finset.mem_compl.mpr hn, e⟩)) (not_le.mpr hlt)

open Classical in
/-- The next position to take. -/
def next (A : Finset (Fin N)) : Fin N := if h : ∃ p, IsNext s A p then h.choose else 0

/-- The positions gone after `n` takes. -/
def taken : ℕ → Finset (Fin N)
  | 0 => ∅
  | n + 1 => insert (next s (taken n)) (taken n)

/-- After `n` steps at most `n` positions are taken. -/
theorem card_taken (n : ℕ) : (taken s n).card ≤ n := by
  induction n with
  | zero => exact le_of_eq Finset.card_empty
  | succ n ih => exact (Finset.card_insert_le _ _).trans (Nat.succ_le_succ ih)

/-- Each step takes the next position. -/
theorem isNext_next (n : ℕ) (hn : n < N) : IsNext s (taken s n) (next s (taken s n)) := by
  have h := exists_isNext s (taken s n) (lt_of_le_of_lt (card_taken s n) hn)
  unfold next
  rw [dif_pos h]
  exact h.choose_spec

/-- A position once taken stays taken. -/
theorem next_mem_taken {m n : ℕ} (h : m < n) : next s (taken s m) ∈ taken s n := by
  induction n with
  | zero => omega
  | succ n ih =>
    rcases Nat.lt_succ_iff_lt_or_eq.mp h with h | rfl
    · exact Finset.mem_insert_of_mem (ih h)
    · exact Finset.mem_insert_self _ _

/-- A taken position was taken at some step. -/
theorem mem_taken {n : ℕ} {p : Fin N} (h : p ∈ taken s n) : ∃ m < n, next s (taken s m) = p := by
  induction n with
  | zero => exact absurd h (Finset.notMem_empty p)
  | succ n ih =>
    rcases Finset.mem_insert.mp h with rfl | h
    · exact ⟨n, Nat.lt_succ_self n, rfl⟩
    · obtain ⟨m, hm, e⟩ := ih h
      exact ⟨m, Nat.lt_succ_of_lt hm, e⟩

/-- Position `k` comes before `k'` in a stable descending sort by `w`: its key is greater, or equal and it stands earlier. -/
def Before (w : Fin N → EReal) (k k' : Fin N) : Bool :=
  decide (w k' < w k) || (decide (w k = w k') && decide (k < k'))

/-- Sorting by falling value, then by position, is a strict total order. -/
theorem strictTotalBefore (w : Fin N → EReal) : StrictTotalBefore (Before w) :=
  StrictTotalBefore.of_key_then_position (fun a b => decide (b < a)) w (fun a => by simp)
    (fun a b c h g => by simp only [decide_eq_true_eq] at *; exact lt_trans g h)
    (fun a b => by simp only [decide_eq_true_eq]; exact (lt_trichotomy b a).imp_right (Or.imp_left Eq.symm))

/-- Nothing left comes before the position taken next, by any key that orders the positions as the scores do. -/
theorem not_before_next (w : Fin N → EReal) (hw : ∀ a b, w a < w b ↔ s a < s b) {A : Finset (Fin N)} {p n : Fin N}
    (hp : IsNext s A p) (hn : n ∉ A) : Before w n p = false := by
  obtain ⟨h1, h2⟩ := hp.2 n hn
  have a1 : ¬ w p < w n := fun h => not_lt.mpr h1 ((hw _ _).mp h)
  have a2 : ¬ (w n = w p ∧ n < p) := fun ⟨e, h⟩ => absurd ((hw _ _).mpr (h2 h)) (by rw [e]; exact lt_irrefl _)
  unfold Before
  simp only [Bool.or_eq_false_iff, decide_eq_false_iff_not, Bool.and_eq_false_imp, decide_eq_true_eq]
  exact ⟨a1, fun e h => a2 ⟨e, h⟩⟩

/-- The first `k` positions of the sort are the first `k` positions taken. -/
theorem sortedFrom_before (w : Fin N → EReal) (hw : ∀ a b, w a < w b ↔ s a < s b) {k : ℕ} (hk : k ≤ N) (i : Fin k) :
    sortedFrom (Before w) (i.castLE hk) = next s (taken s i) := by
  have hnext : ∀ j : Fin k, IsNext s (taken s j) (next s (taken s j)) := fun j => isNext_next s j (lt_of_lt_of_le j.isLt hk)
  have hne : ∀ {a b : Fin k}, a < b → next s (taken s a) ≠ next s (taken s b) := fun {a b} h e =>
    (hnext b).1 (e ▸ next_mem_taken s h)
  refine (strictTotalBefore w).sortedFrom_eq_of_prefix hk (fun j : Fin k => next s (taken s j)) ?_ ?_ ?_ i
  · intro a b e
    rcases lt_trichotomy a b with h | h | h
    · exact absurd e (hne h)
    · exact h
    · exact absurd e.symm (hne h)
  · intro a b h
    refine not_before_next s w hw (hnext a) fun hm => ?_
    obtain ⟨c, hc, e⟩ := mem_taken s hm
    exact hne (a := ⟨c, lt_trans hc a.isLt⟩) (b := b) (lt_trans hc h) e
  · intro a p hp
    refine not_before_next s w hw (hnext a) fun hm => ?_
    obtain ⟨c, hc, e⟩ := mem_taken s hm
    exact hp ⟨c, lt_trans hc a.isLt⟩ e

end selection

/-! ## The reference's sort -/

/-- A stable sort does not tell two orders apart that agree whenever the second position stands earlier in the list. -/
theorem stableSort_congr_of_pairwise {ι : Type} (R R' : ι → ι → Bool) (l : List ι)
    (h : l.Pairwise fun a b => R b a = R' b a) : stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- A stable sort by the key alone is the sort by the key and then the position. -/
theorem sortedFrom_key {n : ℕ} (w : Fin n → EReal) :
    sortedFrom (fun k k' : Fin n => decide (w k' < w k)) = sortedFrom (Before w) := by
  have e : sortPositions n (fun k k' : Fin n => decide (w k' < w k)) = sortPositions n (Before w) := by
    refine stableSort_congr_of_pairwise _ _ _ ((List.pairwise_lt_finRange n).imp fun {a b} h => ?_)
    unfold Before
    rw [decide_eq_false (not_lt.mpr (le_of_lt h)), Bool.and_false, Bool.or_false]
  funext k
  exact List.get_of_eq e _

/-- The sort's comparison is the order's `>`. -/
theorem cmpTotal_gt (a b : EReal) : (FloatOps.cmpfTotal (F := Ideal) (φ := .f32) .gt a b == 1#1) = decide (b < a) := by
  show (Ideal.cmpTotal .gt a b == 1#1) = _
  unfold Ideal.cmpTotal Ideal.cmp CmpDirection.ordered
  by_cases h : b < a <;> simp [h]

/-- The second operand of a sort of two lists by the first: position `j` holds the entry the sort brings there. -/
theorem sort2_snd {n : ℕ} {α β : Type} (cmp : α × β → α × β → BitVec 1) (x : (⟨1, ![n]⟩ : Shape).Idx → α) (y : (⟨1, ![n]⟩ : Shape).Idx → β)
    (j : (⟨1, ![n]⟩ : Shape).Idx) :
    (Host.sort2 ⟨1, ![n]⟩ 0 cmp x y).2 j
      = y (ix1 (sortedFrom (fun k k' : Fin n => cmp (x (ix1 k), y (ix1 k)) (x (ix1 k'), y (ix1 k')) == 1#1) (j 0))) := by
  have e : ∀ c : Fin n, (Shape.Idx.ofFin c : (⟨1, ![n]⟩ : Shape).Idx) = ix1 c := fun c =>
    funext fun a => by rw [Subsingleton.elim a (0 : Fin 1)]; rfl
  unfold Host.sort2
  simp [← e]

/-- The indices of the top five of a list of 65536 keys: the first five positions of the sort, as words. -/
theorem topK_apply (x : (⟨1, ![65536]⟩ : Shape).Idx → Ideal .f32) (h : (⟨1, ![65536]⟩ : Shape).Slices (fun _ => 0) ⟨1, ![5]⟩) (i : Fin 5) :
    (Host.topK (⟨1, ![5]⟩ : Shape) 0 (FloatOps.cmpfTotal .gt) x h).2 (ix1 i)
      = BitVec.ofNat 32 (sortedFrom (Before fun n : Fin 65536 => x (ix1 n)) (i.castLE (by decide))) := by
  rw [← sortedFrom_key]
  unfold Host.topK extractStridedSlice
  rw [sort2_snd]
  have hb : (fun k k' : Fin 65536 => FloatOps.cmpfTotal (F := Ideal) (φ := .f32) .gt (x (ix1 k)) (x (ix1 k')) == 1#1)
      = fun k k' => decide (x (ix1 k') < x (ix1 k)) := by
    funext k k'
    exact cmpTotal_gt _ _
  rw [hb]
  rw [dif_pos (show 0 < (⟨1, ![65536]⟩ : Shape).rank from Nat.zero_lt_one)]
  exact congrArg (fun k : Fin 65536 => BitVec.ofNat 32 (sortedFrom (fun k k' : Fin 65536 => decide (x (ix1 k') < x (ix1 k))) k).val)
    (Fin.ext (Nat.zero_add _))

/-! ## The kernel's picks -/

/-- The word of a position of the score table. -/
theorem pos_word (r : Fin 8) (c : Fin 8192) :
    IntOp.addi (IntOp.muli (BitVec.ofNat 32 r) 8192#32) (BitVec.ofNat 32 c) = BitVec.ofNat 32 (r.val * 8192 + c.val) := by
  show BitVec.ofNat 32 r * 8192#32 + BitVec.ofNat 32 c = _
  rw [BitVec.ofNat_add, BitVec.ofNat_mul]

/-- The position of a table entry. -/
def pos (x : Fin 8 × Fin 8192) : Fin 65536 := ⟨x.1.val * 8192 + x.2.val, by have := x.1.isLt; have := x.2.isLt; omega⟩

/-- Every position is a table entry's. -/
theorem pos_surj (n : Fin 65536) : ∃ x, pos x = n :=
  ⟨(⟨n.val / 8192, by have := n.isLt; omega⟩, ⟨n.val % 8192, Nat.mod_lt _ (by decide)⟩), Fin.ext (by show _ / _ * _ + _ % _ = _; omega)⟩

/-- A position as a word reads back as itself. -/
theorem toInt_pos (n : Fin 65536) : (BitVec.ofNat 32 n.val).toInt = n.val :=
  Idealize.ShloMosaic.WordCmp.toInt_ofNat_of_lt (by have := n.isLt; show _ < 2 ^ 31; omega)

/-- Different positions are different words. -/
theorem word_inj {a b : Fin 65536} (h : BitVec.ofNat 32 a.val = BitVec.ofNat 32 b.val) : a = b := by
  have := congrArg BitVec.toInt h
  rw [toInt_pos, toInt_pos] at this
  exact Fin.ext (by exact_mod_cast this)

/-- The kernel picks the least position of the greatest entry. -/
theorem pick_of (t : Vec Ideal S8x8192 .f32) (f : Fin 65536 → EReal) (ht : ∀ x, t (ix2 x.1 x.2) = f (pos x)) (p : Fin 65536)
    (hp : ∀ n, f n ≤ f p ∧ (n < p → f n < f p)) : pick t = BitVec.ofNat 32 p.val := by
  have hmax : (Finset.univ.fold max ⊥ fun y : Fin 8 × Fin 8192 => t (ix2 y.1 y.2)) = f p := by
    obtain ⟨x, hx⟩ := pos_surj p
    apply le_antisymm
    · exact Finset.sup_le fun y _ => (ht y).trans_le (hp _).1
    · rw [← hx, ← ht x]
      exact Finset.le_sup (f := fun y : Fin 8 × Fin 8192 => t (ix2 y.1 y.2)) (Finset.mem_univ x)
  rw [pick_eq, hmax]
  apply BitVec.eq_of_toInt_eq
  rw [← Finset.fold_hom (op := IntOp.minsi) (op' := (min : ℤ → ℤ → ℤ)) (fun a b => (Idealize.ShloMosaic.SortNet.toInt_minsi a b)), toInt_pos]
  apply le_antisymm
  · rw [Finset.fold_min_le]
    obtain ⟨x, hx⟩ := pos_surj p
    refine Or.inr ⟨x, Finset.mem_univ x, ?_⟩
    rw [if_pos (by rw [ht x, hx]), pos_word, ← hx]
    exact le_of_eq (toInt_pos (pos x))
  · rw [Finset.le_fold_min]
    have hlt := p.isLt
    refine ⟨by show (p.val : ℤ) ≤ 2147483647; omega, fun x _ => ?_⟩
    split_ifs with h
    · rw [pos_word]
      rw [ht x] at h
      refine le_of_le_of_eq ?_ (toInt_pos (pos x)).symm
      by_contra hc
      have : pos x < p := by
        rw [Fin.lt_def]
        omega
      exact absurd h (ne_of_lt ((hp _).2 this))
    · show (p.val : ℤ) ≤ 65536
      omega

/-- The table after `n` picks: the entries taken are `⊥`, the others as they were. -/
theorem tabAt_apply (t : Vec Ideal S8x8192 .f32) (s : Fin 65536 → ℝ) (ht : ∀ x, t (ix2 x.1 x.2) = (s (pos x) : EReal)) (n : ℕ) (hn : n < 65536) :
    (∀ x, tabAt t n (ix2 x.1 x.2) = if pos x ∈ taken s n then ⊥ else (s (pos x) : EReal))
      ∧ pick (tabAt t n) = BitVec.ofNat 32 (next s (taken s n)).val := by
  have hpick : ∀ m, m < 65536 → (∀ x, tabAt t m (ix2 x.1 x.2) = if pos x ∈ taken s m then ⊥ else (s (pos x) : EReal)) →
      pick (tabAt t m) = BitVec.ofNat 32 (next s (taken s m)).val := fun m hm h => by
    obtain ⟨h1, h2⟩ := isNext_next s m hm
    refine pick_of _ (fun k => if k ∈ taken s m then ⊥ else (s k : EReal)) h _ fun k => ?_
    rw [if_neg h1]
    by_cases hk : k ∈ taken s m
    · rw [if_pos hk]
      exact ⟨bot_le, fun _ => EReal.bot_lt_coe _⟩
    · rw [if_neg hk]
      exact ⟨EReal.coe_le_coe_iff.mpr (h2 k hk).1, fun g => EReal.coe_lt_coe_iff.mpr ((h2 k hk).2 g)⟩
  have htab : ∀ x, tabAt t n (ix2 x.1 x.2) = if pos x ∈ taken s n then ⊥ else (s (pos x) : EReal) := by
    induction n with
    | zero => exact fun x => (ht x).trans (if_neg (Finset.notMem_empty _)).symm
    | succ n ih =>
      have ih := ih (by omega)
      intro x
      refine (mask_apply _ _ _ _).trans ?_
      rw [hpick n (by omega) ih, pos_word]
      show (if BitVec.ofNat 32 (pos x).val = _ then _ else _) = _
      by_cases hx : pos x = next s (taken s n)
      · rw [if_pos (by rw [hx]), if_pos (hx ▸ next_mem_taken s (Nat.lt_succ_self n))]
      · rw [if_neg fun e => hx (word_inj e), ih x]
        refine if_congr (Iff.symm ?_) rfl rfl
        show pos x ∈ insert _ _ ↔ _
        rw [Finset.mem_insert]
        exact or_iff_right hx
  exact ⟨htab, hpick n hn htab⟩

/-- Lane `i` of the kernel's row of picks, for the first five lanes: the position taken `i`-th. -/
theorem topRow_apply (t : Vec Ideal S8x8192 .f32) (s : Fin 65536 → ℝ) (ht : ∀ x, t (ix2 x.1 x.2) = (s (pos x) : EReal)) (i : Fin 5) :
    topRow t (ix2 0 (i.castLE (by decide))) = BitVec.ofNat 32 (next s (taken s i)).val := by
  have h := fun n hn => (tabAt_apply t s ht n hn).2
  unfold topRow
  simp only [setLane_apply]
  rw [h 0 (by decide), h 1 (by decide), h 2 (by decide), h 3 (by decide), h 4 (by decide)]
  fin_cases i <;> simp
end Cert.KernelIdeal.Value
-- ==== Proof.K.Soft.lean ====
module

public import proofs.«01_k».proof.Proof.K.TopK
public import Idealize.ShloMosaic.PureOps.Ideal

/-! The attention over 65536 real scores: computed row by row with a rescaling at the end, and computed at once. -/

@[expose] public section
noncomputable section
namespace Cert.KernelIdeal.Value
open Idealize.ShloMosaic

/-- A row's score at a step of the kernel's walk along its row of the memory. -/
def along {α : Type} (f : Fin 65536 → α) (r : Fin 8) (k : ℕ) : α := f (pos (r, ⟨k % 8192, Nat.mod_lt _ (by decide)⟩))

/-- Different table entries have different positions. -/
theorem pos_inj : Function.Injective pos := by
  rintro ⟨a, b⟩ ⟨a', b'⟩ e
  have e : a.val * 8192 + b.val = a'.val * 8192 + b'.val := congrArg Fin.val e
  have := b.isLt; have := b'.isLt
  exact Prod.ext (Fin.ext (by show a.val = a'.val; omega)) (Fin.ext (by show b.val = b'.val; omega))

/-- Summing the eight rows one after the other sums over all positions. -/
theorem sum_rows (f : Fin 65536 → EReal) : (∑ r : Fin 8, ∑ k ∈ Finset.range 8192, along f r k) = ∑ n, f n := by
  rw [← Fintype.sum_bijective pos ⟨pos_inj, pos_surj⟩ (fun x => f (pos x)) f fun _ => rfl, Fintype.sum_prod_type]
  refine Finset.sum_congr rfl fun r _ => ?_
  rw [Finset.sum_range]
  refine Finset.sum_congr rfl fun c _ => ?_
  unfold along
  congr 3
  exact Fin.ext (Nat.mod_eq_of_lt c.isLt)

/-- The greatest of the eight rows' greatest scores is the greatest score. -/
theorem top_rows (s : Fin 65536 → ℝ) :
    (Finset.univ.fold max ⊥ fun x : Fin 8 × Fin 1 => top (Finset.range 8192) (along s x.1)) = top Finset.univ s := by
  apply le_antisymm
  · exact Finset.sup_le fun x _ => Finset.sup_le fun k _ => le_top s (Finset.mem_univ _)
  · refine Finset.sup_le fun n _ => ?_
    obtain ⟨⟨r, c⟩, rfl⟩ := pos_surj n
    refine le_trans ?_ (Finset.le_sup (f := fun x : Fin 8 × Fin 1 => top (Finset.range 8192) (along s x.1)) (Finset.mem_univ (r, 0)))
    have e : along s r c.val = s (pos (r, c)) := by
      unfold along
      congr 3
      exact Fin.ext (Nat.mod_eq_of_lt c.isLt)
    rw [← e]
    exact le_top _ (Finset.mem_range.mpr c.isLt)

/-- The greatest of the scores, as a real. -/
def most (s : Fin 65536 → ℝ) : ℝ := (top Finset.univ s).toReal

/-- The greatest score is a real. -/
theorem top_eq_most (s : Fin 65536 → ℝ) : top Finset.univ s = (most s : EReal) := by
  obtain ⟨k, -, e⟩ := top_mem Finset.univ s ⟨0, Finset.mem_univ _⟩
  unfold most
  rw [e, EReal.toReal_coe]

/-- The sum of the exponentials of the scores less the greatest. -/
def total (s : Fin 65536 → ℝ) : ℝ := ∑ n, Real.exp (s n - most s)

/-- The sum of the exponentials is positive. -/
theorem total_pos (s : Fin 65536 → ℝ) : 0 < total s := Finset.sum_pos (fun _ _ => Real.exp_pos _) ⟨0, Finset.mem_univ _⟩

/-- The attention weight of a position. -/
def weight (s : Fin 65536 → ℝ) (n : Fin 65536) : ℝ := Real.exp (s n - most s) * (1 / total s)

/-- Weights are ordered as the scores are. -/
theorem weight_lt (s : Fin 65536 → ℝ) (a b : Fin 65536) : ((weight s a : ℝ) : EReal) < (weight s b : ℝ) ↔ s a < s b := by
  rw [EReal.coe_lt_coe_iff, weight, weight, mul_lt_mul_iff_left₀ (one_div_pos.mpr (total_pos s)), Real.exp_lt_exp, sub_lt_sub_iff_right]

/-- The rows' weighted sums, each brought from its own greatest score to the common one, over the rows' sums so brought, is
    the weighted sum under the attention weights. -/
theorem rows_div (s : Fin 65536 → ℝ) (w : Fin 65536 → ℝ) :
    Ideal.div
      (∑ r : Fin 8, (∑ k ∈ Finset.range 8192, Ideal.exp (((along s r k : ℝ) : EReal) - top (Finset.range 8192) (along s r)) * ((along w r k : ℝ) : EReal))
        * Ideal.exp (top (Finset.range 8192) (along s r) - (most s : EReal)))
      (∑ r : Fin 8, (∑ k ∈ Finset.range 8192, Ideal.exp (((along s r k : ℝ) : EReal) - top (Finset.range 8192) (along s r)))
        * Ideal.exp (top (Finset.range 8192) (along s r) - (most s : EReal)))
      = ∑ n, (weight s n : EReal) * (w n : EReal) := by
  have hN := sum_rows fun n => Ideal.exp (s n - (most s : EReal)) * (w n : EReal)
  have hD := sum_rows fun n => Ideal.exp (s n - (most s : EReal))
  unfold along at hN hD
  simp only [rescale, rescale_one]
  unfold along
  rw [hN, hD]
  simp only [exp_coe_sub, ← EReal.coe_mul, coe_sum]
  show Ideal.div _ ((total s : ℝ) : EReal) = _
  rw [Ideal.div_coe (total_pos s).ne', ← EReal.coe_mul, EReal.coe_eq_coe_iff]
  rw [Finset.sum_mul]
  refine Finset.sum_congr rfl fun n _ => ?_
  unfold weight
  ring

end Cert.KernelIdeal.Value
end
-- ==== Proof.K.Value.lean ====
module

public import proofs.«01_k».proof.Proof.K.Run
public import proofs.«01_k».proof.Proof.K.Ref
public import proofs.«01_k».proof.Proof.K.Soft

/-! Kernel and reference compute the same two results from real scores. -/

@[expose] public section
set_option maxRecDepth 16384
noncomputable section
namespace Cert.KernelIdeal.Value
open Cert.KernelIdeal Cert.KernelIdeal.Gen Idealize.ShloMosaic

/-- The word the reference divides the scores by is sixteen. -/
theorem ofBits_sixteen : Ideal.ofBits .f32 0x41800000#32 = ((16 : ℝ) : EReal) := by
  simp [Ideal.ofBits, Ideal.ieee, -EReal.coe_mul]
  norm_num

variable (h : S1x1x4096.Idx → ℝ) (M : S65536x256.Idx → ℝ) (Wq : S256x4096.Idx → ℝ) (bq : S256.Idx → ℝ)

/-- An array of reals, read in the extended reals. -/
abbrev up {s : Shape} (x : s.Idx → ℝ) : FVec Ideal s .f32 := fun i => ((x i : ℝ) : EReal)

/-- The attention score of a memory entry, a real. -/
def score (n : Fin 65536) : ℝ :=
  (∑ d : Fin 256, ((∑ j : Fin 4096, Wq (ix2 d j) * h (ix3 0 0 j)) + bq (ix1 d)) * M (ix2 n d)) / 16

/-- The reference's scores are these. -/
theorem scores_eq (n : Fin 65536) :
    Cert.ReferenceIdeal.Read.scores (up h) (up M) (up Wq) (up bq) (ix2 0 n) = (score h M Wq bq n : EReal) := by
  rw [Cert.ReferenceIdeal.Read.scores_apply, ofBits_sixteen, Ideal.div_coe (by norm_num)]
  simp only [up, ← EReal.coe_mul, ← EReal.coe_add, coe_sum]
  rw [EReal.coe_eq_coe_iff, score]
  ring

/-- The memory as the kernel sees it: entry `c` of row `r` is the memory's at `pos (r, c)`. -/
theorem memo_apply (x : FVec Ideal S65536x256 .f32) (r : Fin 8) (c : Fin 8192) (d : Fin 256) :
    shapeCast S8x8192x256 x shapeCasts_S65536x256_S8x8192x256 (ix3 r c d) = x (ix2 (pos (r, c)) d) := by
  pointwise
  rfl

/-- The kernel's query. -/
def qOf (h : FVec Ideal S1x1x4096 .f32) (Wq : FVec Ideal S256x4096 .f32) (bq : FVec Ideal S256 .f32) : FVec Ideal S8x256 .f32 :=
  k0_pay1 (shapeCast S1x4096 h shapeCasts_S1x1x4096_S1x4096) Wq (shapeCast S1x256 bq shapeCasts_S256_S1x256)

/-- The memory as eight rows. -/
def mOf (M : FVec Ideal S65536x256 .f32) : FVec Ideal S8x8192x256 .f32 := shapeCast S8x8192x256 M shapeCasts_S65536x256_S8x8192x256

/-- An entry of the kernel's query, a real. -/
theorem qOf_apply (r : Fin 8) (d : Fin 256) : qOf (up h) (up Wq) (up bq) (ix2 r d)
    = ((((∑ j : Fin 4096, Wq (ix2 d j) * h (ix3 0 0 j)) + bq (ix1 d)) * (1 / 16) : ℝ) : EReal) := by
  rw [qOf, query_apply]
  have e1 : ∀ j, shapeCast S1x4096 (up h) shapeCasts_S1x1x4096_S1x4096 (ix2 0 j) = up h (ix3 0 0 j) := fun j => by pointwise
  have e2 : shapeCast S1x256 (up bq) shapeCasts_S256_S1x256 (ix2 0 d) = up bq (ix1 d) := by pointwise
  simp only [e1, e2, up, ← EReal.coe_mul, ← EReal.coe_add, coe_sum]
  rw [EReal.coe_eq_coe_iff]
  simp only [mul_comm]

/-- The kernel's scores are these too. -/
theorem kernel_score (r : Fin 8) (c : Fin 8192) :
    (∑ d : Fin 256, qOf (up h) (up Wq) (up bq) (ix2 r d) * mOf (up M) (ix3 r c d)) = (score h M Wq bq (pos (r, c)) : EReal) := by
  simp only [qOf_apply, mOf, memo_apply]
  simp only [up, ← EReal.coe_mul, coe_sum]
  rw [EReal.coe_eq_coe_iff, score, Finset.sum_div]
  refine Finset.sum_congr rfl fun d _ => ?_
  ring

/-- An entry of the kernel's score table is the score of its position. -/
theorem scoreTab_apply (r : Fin 8) (c : Fin 8192) :
    scoreTab (qOf (up h) (up Wq) (up bq)) (mOf (up M)) (ix2 r c) = (score h M Wq bq (pos (r, c)) : EReal) := by
  refine Eq.trans ?_ (kernel_score h M Wq bq r c)
  unfold scoreTab
  refine (score_apply _ _ r ⟨c.val % 512, Nat.mod_lt _ (by decide)⟩).trans (Finset.sum_congr rfl fun d _ => ?_)
  refine congrArg (_ * ·) (congrArg (mOf (up M)) (congrArg (fun z => ix3 r z d) (Fin.ext ?_)))
  have := c.isLt
  show (512 * (c.val / 512) + c.val % 512) % 8192 = c.val
  omega

/-- The reference's weights are the attention weights of the scores. -/
theorem weights_eq (S : FVec Ideal Cert.ReferenceIdeal.S1x65536 .f32) (s : Fin 65536 → ℝ) (hS : ∀ n, S (ix2 0 n) = (s n : EReal)) (n : Fin 65536) :
    Cert.ReferenceIdeal.Read.weights S (ix2 0 n) = (weight s n : EReal) := by
  have hm : Cert.ReferenceIdeal.Read.most S (ix1 0) = (most s : EReal) := by
    rw [Cert.ReferenceIdeal.Read.most_apply, ofBits_neg_inf, max_eq_right bot_le, ← top_eq_most]
    simp only [hS]
    rfl
  have he : ∀ k, Cert.ReferenceIdeal.Read.exps S (ix2 0 k) = ((Real.exp (s k - most s) : ℝ) : EReal) := fun k => by
    rw [Cert.ReferenceIdeal.Read.exps_apply, hm, hS, exp_coe_sub]
  rw [Cert.ReferenceIdeal.Read.weights_apply]
  simp only [he, coe_sum]
  show Ideal.div _ ((total s : ℝ) : EReal) = _
  rw [Ideal.div_coe (total_pos s).ne', ← EReal.coe_mul]
  rfl

/-- The first result: the kernel's row is the reference's. -/
theorem row_eq (Wo : FVec Ideal S4096x256 .f32) (bo : FVec Ideal S4096 .f32) (i : Fin 4096) :
    shapeCast S1x1x4096 (outRow (stAt (qOf (up h) (up Wq) (up bq)) (mOf (up M)) 16) Wo (shapeCast S1x4096 bo shapeCasts_S4096_S1x4096))
        shapeCasts_S1x4096_S1x1x4096 (ix3 0 0 i)
      = Cert.ReferenceIdeal.Read.out (up M) Wo bo
          (Cert.ReferenceIdeal.Read.weights (Cert.ReferenceIdeal.Read.scores (up h) (up M) (up Wq) (up bq))) (ix3 0 0 i) := by
  have H := stAt_apply (qOf (up h) (up Wq) (up bq)) (mOf (up M)) (along (score h M Wq bq)) (fun r k d => along (fun n => M (ix2 n d)) r k)
    (fun r k => kernel_score h M Wq bq r _) (fun r k d => memo_apply (up M) r _ d) 16
  simp only [Nat.reduceMul] at H
  have ec : ∀ (x : FVec Ideal S1x4096 .f32), shapeCast S1x1x4096 x shapeCasts_S1x4096_S1x1x4096 (ix3 0 0 i) = x (ix2 0 i) := fun x => by pointwise
  have eb : shapeCast S1x4096 bo shapeCasts_S4096_S1x4096 (ix2 0 i) = bo (ix1 i) := by pointwise
  have hm : (Finset.univ.fold max ⊥ fun x : Fin 8 × Fin 1 => (stAt (qOf (up h) (up Wq) (up bq)) (mOf (up M)) 16).1 (ix2 x.1 0))
      = (most (score h M Wq bq) : EReal) := by
    rw [← top_eq_most, ← top_rows]
    simp only [fun r => (H r).1]
  rw [ec, out_apply, eb, hm, Cert.ReferenceIdeal.Read.out_apply]
  simp only [fun r => (H r).1, fun r => (H r).2.1, fun r => (H r).2.2, weights_eq _ _ (scores_eq h M Wq bq)]
  simp only [up, fun d => rows_div (score h M Wq bq) fun n => M (ix2 n d)]

/-- The second result: the kernel's five positions are the reference's. -/
theorem lanes_eq (i : Fin 5) :
    shapeCast S5 (extractStridedSlice S1x5 ![0, 0] (topRow (scoreTab (qOf (up h) (up Wq) (up bq)) (mOf (up M)))) slices_S1x128_S1x5_0_0)
        shapeCasts_S1x5_S5 (ix1 i)
      = Cert.ReferenceIdeal.Read.chosen
          (Cert.ReferenceIdeal.Read.weights (Cert.ReferenceIdeal.Read.scores (up h) (up M) (up Wq) (up bq))) (ix1 i) := by
  have e : ∀ t : Vec Ideal S1x128 .i32, shapeCast S5 (extractStridedSlice S1x5 ![0, 0] t slices_S1x128_S1x5_0_0) shapeCasts_S1x5_S5 (ix1 i)
      = t (ix2 0 (i.castLE (by decide))) := fun t => by
    pointwise
    rfl
  rw [e, topRow_apply _ (score h M Wq bq) (fun x => scoreTab_apply h M Wq bq x.1 x.2)]
  refine Eq.trans ?_ (topK_apply _ _ i).symm
  rw [sortedFrom_before (score h M Wq bq)]
  intro a b
  have ew : ∀ (A : FVec Ideal Cert.ReferenceIdeal.S1x65536 .f32) (n : Fin 65536),
      shapeCast Cert.ReferenceIdeal.S65536 A Cert.ReferenceIdeal.Facts₀.shapeCasts_S1x65536_S65536 (ix1 n) = A (ix2 0 n) := fun A n => by pointwise
  rw [ew, ew, weights_eq _ _ (scores_eq h M Wq bq), weights_eq _ _ (scores_eq h M Wq bq)]
  exact weight_lt _ a b

/-- Both results from the argument arrays, where the arrays the scores are made of hold reals. -/
theorem results_eq (h : FVec Ideal S1x1x4096 .f32) (M : FVec Ideal S65536x256 .f32) (Wq : FVec Ideal S256x4096 .f32) (bq : FVec Ideal S256 .f32)
    (Wo : FVec Ideal S4096x256 .f32) (bo : FVec Ideal S4096 .f32)
    (hr : (∀ i, ∃ r : ℝ, h i = r) ∧ (∀ i, ∃ r : ℝ, M i = r) ∧ (∀ i, ∃ r : ℝ, Wq i = r) ∧ ∀ i, ∃ r : ℝ, bq i = r) :
    shapeCast S1x1x4096 (outRow (stAt (qOf h Wq bq) (mOf M) 16) Wo (shapeCast S1x4096 bo shapeCasts_S4096_S1x4096)) shapeCasts_S1x4096_S1x1x4096
        = Cert.ReferenceIdeal.Read.out M Wo bo (Cert.ReferenceIdeal.Read.weights (Cert.ReferenceIdeal.Read.scores h M Wq bq))
      ∧ shapeCast S5 (extractStridedSlice S1x5 ![0, 0] (topRow (scoreTab (qOf h Wq bq) (mOf M))) slices_S1x128_S1x5_0_0) shapeCasts_S1x5_S5
        = Cert.ReferenceIdeal.Read.chosen (Cert.ReferenceIdeal.Read.weights (Cert.ReferenceIdeal.Read.scores h M Wq bq)) := by
  obtain ⟨h1, h2, h3, h4⟩ := hr
  choose h' h1 using h1
  choose M' h2 using h2
  choose Wq' h3 using h3
  choose bq' h4 using h4
  obtain rfl : h = up h' := funext h1
  obtain rfl : M = up M' := funext h2
  obtain rfl : Wq = up Wq' := funext h3
  obtain rfl : bq = up bq' := funext h4
  constructor
  · funext i
    rw [eq_ix3 i]
    have e0 : i 0 = (0 : Fin 1) := Subsingleton.elim (α := Fin 1) _ _
    have e1 : i 1 = (0 : Fin 1) := Subsingleton.elim (α := Fin 1) _ _
    rw [e0, e1]
    exact row_eq h' M' Wq' bq' Wo bo (i 2)
  · funext i
    rw [eq_ix1 i]
    exact lanes_eq h' M' Wq' bq' (i 0)

end Cert.KernelIdeal.Value
end
-- ==== Proof.K.Pre.lean ====
module

public import proofs.«01_k».proof.Proof.Gen.Pre_finite_scores
public import proofs.«01_k».proof.Proof.K.Read
public import Idealize.ShloMosaic.Lib.ReduceAll
public import Idealize.ShloMosaic.Lib.Pointwise

/-! The precondition, read: every entry of the arrays it looks at is a real. -/

@[expose] public section
set_option maxRecDepth 16384
noncomputable section
namespace Cert.Pre_finite_scores.Read
open Cert.Pre_finite_scores Cert.Pre_finite_scores.Gen Idealize.ShloMosaic

/-- The word the test compares with is infinity. -/
theorem ofBits_inf : Ideal.ofBits .f32 0x7F800000#32 = ⊤ := by simp [Ideal.ofBits, Ideal.ieee]

/-- A number whose absolute value is below infinity is a real. -/
theorem real_of_abs_lt {x : EReal} (h : max x (-x) < ⊤) : ∃ r : ℝ, x = r := by
  induction x using EReal.rec with
  | bot => simp at h
  | top => simp at h
  | coe r => exact ⟨r, rfl⟩

/-- A comparison that came out one held. -/
theorem cmp_lt {x y : EReal} (h : Ideal.cmp .olt x y = 1#1) : x < y := by
  unfold Ideal.cmp at h
  by_contra hn
  simp [hn] at h

/-- The test of one array: every entry below infinity in absolute value. -/
theorem real_of_all {s : Shape} (x : FVec Ideal s .f32) {axes : List (Fin s.rank)} (hb : S_.BroadcastsInDim s (![] : Fin 0 → Fin s.rank))
    (hr : s.ReducesTo axes S_) (hS : 0 < S_.numel) (j : S_.Idx)
    (h : Host.reduce IntOp.andi (cmpf .olt (Host.absf x) (broadcastInDim s ![] hb (constant S_ .f32 0x7F800000#32))) (constantI S_ 1 1#1) hr hS j = 1#1)
    (i : s.Idx) : ∃ r : ℝ, x i = r := by
  haveI : Subsingleton S_.Idx := ⟨fun a b => funext fun k => k.elim0⟩
  have := Host.reduce_andi_all _ _ hr hS j h i
  refine real_of_abs_lt ?_
  rw [← ofBits_inf]
  exact cmp_lt this

/-- Under the precondition every entry of the hidden state, the memory, the query matrix and the query bias is a real. -/
theorem reals (h : FVec Ideal S1x1x4096 .f32) (M : FVec Ideal S65536x256 .f32) (Wq : FVec Ideal S256x4096 .f32) (bq : FVec Ideal S256 .f32)
    (Wo : FVec Ideal S4096x256 .f32) (bo : FVec Ideal S4096 .f32) (e : fn (F := Ideal) h M Wq bq Wo bo = fun _ => 1#1) :
    (∀ i, ∃ r : ℝ, h i = r) ∧ (∀ i, ∃ r : ℝ, M i = r) ∧ (∀ i, ∃ r : ℝ, Wq i = r) ∧ ∀ i, ∃ r : ℝ, bq i = r := by
  have j : S_.Idx := fun k => k.elim0
  have e := congrFun e j
  unfold fn fn_part1 at e
  obtain ⟨e, e4⟩ := IntOp.andi_eq_one.1 e
  obtain ⟨e, e3⟩ := IntOp.andi_eq_one.1 e
  obtain ⟨e1, e2⟩ := IntOp.andi_eq_one.1 e
  exact ⟨real_of_all h _ _ _ j e1, real_of_all M _ _ _ j e2, real_of_all Wq _ _ _ j e3, real_of_all bq _ _ _ j e4⟩

end Cert.Pre_finite_scores.Read
end
-- ==== Proof.lean ====
/-
  The proof of the claims about the attention read.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_scores
public import proofs.«01_k».proof.Proof.K.Value
public import proofs.«01_k».proof.Proof.K.Pre
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference, read at the extended reals, terminates, leaves its arguments as they were and ends with every
    semaphore counter at zero: it declares none. -/
theorem frame_reference : Cert.quiescent_ReferenceIdeal := fun m g _ =>
  (θ_run Cert.ReferenceIdeal.defs _ _).mono
    (fun r h => ⟨fun c => (h c).2.2, sem_eq_zero_of_no_sems rfl r.2⟩) (Cert.ReferenceIdeal.Value.run m g)

/-- Over the extended reals, where the arrays the scores are made of hold reals, the kernel and the reference end with the
    same two results. -/
theorem same_results : Cert.algebraic_KernelIdeal_ReferenceIdeal_pre_finite_scores := by
  intro m g m' g' hpre hargs
  refine ⟨fun c => Cert.KernelIdeal.Value.res0 m c, fun c => Cert.KernelIdeal.Value.res1 m c, ?_, ?_⟩
  · exact (θ_run Cert.KernelIdeal.defs _ _).mono (fun _ h c => ⟨(h.1 c).1, (h.1 c).2, h.2 c⟩)
      (θ_run_and (Cert.KernelIdeal.Value.run_results m g) (Cert.KernelIdeal.Gen.unchanged m g))
  · refine (θ_run Cert.ReferenceIdeal.defs _ _).mono (fun _ h c => ?_) (Cert.ReferenceIdeal.Value.run m' g')
    obtain ⟨e0, e1, e2, e3, e4, e5⟩ := hargs c
    obtain ⟨r0, r1⟩ := Cert.KernelIdeal.Value.results_eq _ _ _ _ (m ((c.tc : Thread _ _).loc Cert.KernelIdeal.main_arg4))
      (m ((c.tc : Thread _ _).loc Cert.KernelIdeal.main_arg5)) (Cert.Pre_finite_scores.Read.reals _ _ _ _ _ _ (hpre c))
    refine ⟨(h c).1.trans (Eq.trans ?_ r0.symm), (h c).2.1.trans (Eq.trans ?_ r1.symm), (h c).2.2⟩
    · rw [e0, e1, e2, e3, e4, e5]
      rfl
    · rw [e0, e1, e2, e3]
      rfl

/-- The claims. -/
theorem claim : Cert.Claim := ⟨Cert.Kernel.Gen.facts, Cert.KernelIdeal.Gen.facts, Cert.ReferenceIdeal.Gen.facts, Cert.Pre_finite_scores.Gen.facts,
  fun m g _ => Cert.Kernel.Gen.frame m g, fun m g _ => Cert.KernelIdeal.Gen.frame m g, fun m g _ => Cert.KernelIdeal.Gen.frame m g,
  frame_reference, fun m g _ => frame_reference m g trivial, trivial, same_results⟩

end Cert.Proof

end
